-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale2" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x16x2048x64 : Shape := ⟨4, ![1, 16, 2048, 64]⟩
abbrev S_ : Shape := ⟨0, ![]⟩

class Facts : Prop where
  bcast_S_S1x16x2048x64 : S_.BroadcastsInDim S1x16x2048x64 (![] : Fin 0 → Fin S1x16x2048x64.rank)
  reducesTo_S1x16x2048x64_S_d0_1_2_3 : S1x16x2048x64.ReducesTo [0, 1, 2, 3] S_
  h_S_ : 0 < S_.numel

variable [Facts]

def fn {F : FTy → Type} [FloatOps F] (main_arg0 : FVec F S1x16x2048x64 .f32) (main_arg1 : FVec F S1x16x2048x64 .f32) (main_arg2 : FVec F S1x16x2048x64 .f32) : IVec S_ 1 :=
  let main_v0 : FVec F S1x16x2048x64 .f32 := Host.absf main_arg0
  let main_cst : FVec F S_ .f32 := constant S_ .f32 0x7F800000#32
  let main_v1 : FVec F S1x16x2048x64 .f32 := broadcastInDim S1x16x2048x64 ![] bcast_S_S1x16x2048x64 main_cst
  let main_v2 : IVec S1x16x2048x64 1 := cmpf .olt main_v0 main_v1
  let main_c : IVec S_ 1 := constantI S_ 1 1#1
  let main_v3 : IVec S_ 1 := (fun x v => Host.reduce IntOp.andi x v reducesTo_S1x16x2048x64_S_d0_1_2_3 h_S_) main_v2 main_c
  let main_v4 : FVec F S1x16x2048x64 .f32 := Host.absf main_arg1
  let main_cst_0 : FVec F S_ .f32 := constant S_ .f32 0x7F800000#32
  let main_v5 : FVec F S1x16x2048x64 .f32 := broadcastInDim S1x16x2048x64 ![] bcast_S_S1x16x2048x64 main_cst_0
  let main_v6 : IVec S1x16x2048x64 1 := cmpf .olt main_v4 main_v5
  let main_c_1 : IVec S_ 1 := constantI S_ 1 1#1
  let main_v7 : IVec S_ 1 := (fun x v => Host.reduce IntOp.andi x v reducesTo_S1x16x2048x64_S_d0_1_2_3 h_S_) main_v6 main_c_1
  let main_v8 : IVec S_ 1 := andi main_v3 main_v7
  main_v8
-- ==== Kernel.lean ====
abbrev S1x16x2048x64 : Shape := ⟨4, ![1, 16, 2048, 64]⟩
abbrev S1x1x2048x64 : Shape := ⟨4, ![1, 1, 2048, 64]⟩
abbrev S2048x64 : Shape := ⟨2, ![2048, 64]⟩
abbrev S2048x128 : Shape := ⟨2, ![2048, 128]⟩
abbrev S2048 : Shape := ⟨1, ![2048]⟩
abbrev S1x2048 : Shape := ⟨2, ![1, 2048]⟩
abbrev S1 : Shape := ⟨1, ![1]⟩
abbrev S1x1 : Shape := ⟨2, ![1, 1]⟩
abbrev S512x512 : Shape := ⟨2, ![512, 512]⟩
abbrev S1x1x512x64 : Shape := ⟨4, ![1, 1, 512, 64]⟩
abbrev S512x64 : Shape := ⟨2, ![512, 64]⟩
abbrev S512 : Shape := ⟨1, ![512]⟩
abbrev S512x1 : Shape := ⟨2, ![512, 1]⟩
abbrev S512x128 : Shape := ⟨2, ![512, 128]⟩
abbrev S1024x64 : Shape := ⟨2, ![1024, 64]⟩
abbrev S512x1024 : Shape := ⟨2, ![512, 1024]⟩
abbrev S1024x128 : Shape := ⟨2, ![1024, 128]⟩
abbrev S1536x64 : Shape := ⟨2, ![1536, 64]⟩
abbrev S512x1536 : Shape := ⟨2, ![512, 1536]⟩
abbrev S1536x128 : Shape := ⟨2, ![1536, 128]⟩

abbrev nBuf : Space → Nat
  | .hbm => 4
  | .vmem => 10
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S1x16x2048x64, .f32⟩
  | .local _ .vmem, ⟨0, _⟩ => ⟨S1x1x2048x64, .f32⟩
  | .local _ .vmem, ⟨1, _⟩ => ⟨S1x1x2048x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048x64, .f32⟩
  | .local _ .vmem, ⟨7, _⟩ => ⟨S1x1x2048x64, .f32⟩
  | .local _ .vmem, ⟨8, _⟩ => ⟨S2048x64, .bf16⟩
  | .local _ .vmem, ⟨9, _⟩ => ⟨S2048x128, .bf16⟩
  | _, _ => ⟨S1x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "mask" => some ⊥
  | "scale2" => some (((1 / 8) * (Real.log 2)⁻¹ : ℝ) : EReal)
  | _ => none
-- ==== ReferenceIdeal.lean ====
abbrev S1x16x2048x64 : Shape := ⟨4, ![1, 16, 2048, 64]⟩
abbrev S1x16x32x64 : Shape := ⟨4, ![1, 16, 32, 64]⟩
abbrev S1x16x2048x32 : Shape := ⟨4, ![1, 16, 2048, 32]⟩
abbrev S_ : Shape := ⟨0, ![]⟩
abbrev S32 : Shape := ⟨1, ![32]⟩
abbrev S1x32 : Shape := ⟨2, ![1, 32]⟩
abbrev S2048 : Shape := ⟨1, ![2048]⟩
abbrev S2048x1 : Shape := ⟨2, ![2048, 1]⟩
abbrev S2048x32 : Shape := ⟨2, ![2048, 32]⟩
abbrev S1x1x2048x32 : Shape := ⟨4, ![1, 1, 2048, 32]⟩
abbrev S1x16x2048 : Shape := ⟨3, ![1, 16, 2048]⟩
abbrev S1x16x2048x1 : Shape := ⟨4, ![1, 16, 2048, 1]⟩
abbrev S1x16x2016x64 : Shape := ⟨4, ![1, 16, 2016, 64]⟩
abbrev S1x16x2016x2016 : Shape := ⟨4, ![1, 16, 2016, 2016]⟩
abbrev S2016 : Shape := ⟨1, ![2016]⟩
abbrev S1x2016 : Shape := ⟨2, ![1, 2016]⟩
abbrev S2016x1 : Shape := ⟨2, ![2016, 1]⟩
abbrev S2016x2016 : Shape := ⟨2, ![2016, 2016]⟩
abbrev S1x1x2016x2016 : Shape := ⟨4, ![1, 1, 2016, 2016]⟩
abbrev S1x16x2016 : Shape := ⟨3, ![1, 16, 2016]⟩
abbrev S1x16x2016x1 : Shape := ⟨4, ![1, 16, 2016, 1]⟩
abbrev S1x16x32x1 : Shape := ⟨4, ![1, 16, 32, 1]⟩

abbrev nBuf : Space → Nat
  | .hbm => 96
  | .vmem => 0
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S1x16x32x64, .f32⟩
  | .hbm, ⟨4, _⟩ => ⟨S1x16x32x64, .f32⟩
  | .hbm, ⟨5, _⟩ => ⟨S1x16x2048x32, .f32⟩
  | .hbm, ⟨6, _⟩ => ⟨S_, .f32⟩
  | .hbm, ⟨7, _⟩ => ⟨S1x16x2048x32, .f32⟩
  | .hbm, ⟨8, _⟩ => ⟨S1x16x2048x32, .f32⟩
  | .hbm, ⟨9, _⟩ => ⟨S32, .i32⟩
  | .hbm, ⟨10, _⟩ => ⟨S1x32, .i32⟩
  | .hbm, ⟨11, _⟩ => ⟨S2048, .i32⟩
  | .hbm, ⟨12, _⟩ => ⟨S2048x1, .i32⟩
  | .hbm, ⟨13, _⟩ => ⟨S2048x32, .i32⟩
  | .hbm, ⟨14, _⟩ => ⟨S2048x32, .i32⟩
  | .hbm, ⟨15, _⟩ => ⟨S2048x32, .i1⟩
  | .hbm, ⟨16, _⟩ => ⟨S1x1x2048x32, .i1⟩
  | .hbm, ⟨17, _⟩ => ⟨S_, .f32⟩
  | .hbm, ⟨18, _⟩ => ⟨S_, .f32⟩
  | .hbm, ⟨19, _⟩ => ⟨S1x16x2048x32, .i1⟩
  | .hbm, ⟨20, _⟩ => ⟨S1x16x2048x32, .f32⟩
  | .hbm, ⟨21, _⟩ => ⟨S1x16x2048x32, .f32⟩
  | .hbm, ⟨22, _⟩ => ⟨S_, .f32⟩
  | .hbm, ⟨23, _⟩ => ⟨S1x16x2048, .f32⟩
  | .hbm, ⟨24, _⟩ => ⟨S1x16x2048x1, .f32⟩
  | .hbm, ⟨25, _⟩ => ⟨S1x16x2048x32, .f32⟩
  | .hbm, ⟨26, _⟩ => ⟨S1x16x2048x32, .f32⟩
  | .hbm, ⟨27, _⟩ => ⟨S1x16x2048x32, .f32⟩
  | .hbm, ⟨28, _⟩ => ⟨S_, .f32⟩
  | .hbm, ⟨29, _⟩ => ⟨S1x16x2048, .f32⟩
  | .hbm, ⟨30, _⟩ => ⟨S1x16x2048x1, .f32⟩
  | .hbm, ⟨31, _⟩ => ⟨S1x16x2048x1, .f32⟩
  | .hbm, ⟨32, _⟩ => ⟨S1x16x2048x1, .f32⟩
  | .hbm, ⟨33, _⟩ => ⟨S1x16x2048x32, .f32⟩
  | .hbm, ⟨34, _⟩ => ⟨S1x16x2048x32, .f32⟩
  | .hbm, ⟨35, _⟩ => ⟨S1x16x2048x32, .f32⟩
  | .hbm, ⟨36, _⟩ => ⟨S1x16x2048x64, .f32⟩
  | .hbm, ⟨37, _⟩ => ⟨S1x16x2016x64, .f32⟩
  | .hbm, ⟨38, _⟩ => ⟨S1x16x2016x64, .f32⟩
  | .hbm, ⟨39, _⟩ => ⟨S1x16x2016x64, .f32⟩
  | .hbm, ⟨40, _⟩ => ⟨S1x16x2016x2016, .f32⟩
  | .hbm, ⟨41, _⟩ => ⟨S_, .f32⟩
  | .hbm, ⟨42, _⟩ => ⟨S1x16x2016x2016, .f32⟩
  | .hbm, ⟨43, _⟩ => ⟨S1x16x2016x2016, .f32⟩
  | .hbm, ⟨44, _⟩ => ⟨S2016, .i32⟩
  | .hbm, ⟨45, _⟩ => ⟨S1x2016, .i32⟩
  | .hbm, ⟨46, _⟩ => ⟨S2016, .i32⟩
  | .hbm, ⟨47, _⟩ => ⟨S2016x1, .i32⟩
  | .hbm, ⟨48, _⟩ => ⟨S2016x2016, .i32⟩
  | .hbm, ⟨49, _⟩ => ⟨S2016x2016, .i32⟩
  | .hbm, ⟨50, _⟩ => ⟨S2016x2016, .i1⟩
  | .hbm, ⟨51, _⟩ => ⟨S1x1x2016x2016, .i1⟩
  | .hbm, ⟨52, _⟩ => ⟨S_, .f32⟩
  | .hbm, ⟨53, _⟩ => ⟨S_, .f32⟩
  | .hbm, ⟨54, _⟩ => ⟨S1x16x2016x2016, .i1⟩
  | .hbm, ⟨55, _⟩ => ⟨S1x16x2016x2016, .f32⟩
  | .hbm, ⟨56, _⟩ => ⟨S1x16x2016x2016, .f32⟩
  | .hbm, ⟨57, _⟩ => ⟨S_, .f32⟩
  | .hbm, ⟨58, _⟩ => ⟨S1x16x2016, .f32⟩
  | .hbm, ⟨59, _⟩ => ⟨S1x16x2016x1, .f32⟩
  | .hbm, ⟨60, _⟩ => ⟨S1x16x2016x2016, .f32⟩
  | .hbm, ⟨61, _⟩ => ⟨S1x16x2016x2016, .f32⟩
  | .hbm, ⟨62, _⟩ => ⟨S1x16x2016x2016, .f32⟩
  | .hbm, ⟨63, _⟩ => ⟨S_, .f32⟩
  | .hbm, ⟨64, _⟩ => ⟨S1x16x2016, .f32⟩
  | .hbm, ⟨65, _⟩ => ⟨S1x16x2016x1, .f32⟩
  | .hbm, ⟨66, _⟩ => ⟨S1x16x2016x1, .f32⟩
  | .hbm, ⟨67, _⟩ => ⟨S1x16x2016x1, .f32⟩
  | .hbm, ⟨68, _⟩ => ⟨S1x16x2016x2016, .f32⟩
  | .hbm, ⟨69, _⟩ => ⟨S1x16x2016x2016, .f32⟩
  | .hbm, ⟨70, _⟩ => ⟨S1x16x2016x2016, .f32⟩
  | .hbm, ⟨71, _⟩ => ⟨S1x16x2016x64, .f32⟩
  | .hbm, ⟨72, _⟩ => ⟨S1x16x32x64, .f32⟩
  | .hbm, ⟨73, _⟩ => ⟨S_, .f32⟩
  | .hbm, ⟨74, _⟩ => ⟨S1x16x32x64, .f32⟩
  | .hbm, ⟨75, _⟩ => ⟨S1x16x2048x64, .f32⟩
  | .hbm, ⟨76, _⟩ => ⟨S1x16x32x1, .f32⟩
  | .hbm, ⟨77, _⟩ => ⟨S_, .f32⟩
  | .hbm, ⟨78, _⟩ => ⟨S1x16x32x1, .f32⟩
  | .hbm, ⟨79, _⟩ => ⟨S1x16x2048x1, .f32⟩
  | .hbm, ⟨80, _⟩ => ⟨S1x16x2048x1, .f32⟩
  | .hbm, ⟨81, _⟩ => ⟨S1x16x2048x1, .f32⟩
  | .hbm, ⟨82, _⟩ => ⟨S_, .f32⟩
  | .hbm, ⟨83, _⟩ => ⟨S1x16x2048x1, .f32⟩
  | .hbm, ⟨84, _⟩ => ⟨S1x16x2048x1, .f32⟩
  | .hbm, ⟨85, _⟩ => ⟨S_, .f32⟩
  | .hbm, ⟨86, _⟩ => ⟨S1x16x2048x1, .f32⟩
  | .hbm, ⟨87, _⟩ => ⟨S1x16x2048x1, .f32⟩
  | .hbm, ⟨88, _⟩ => ⟨S1x16x2048x64, .f32⟩
  | .hbm, ⟨89, _⟩ => ⟨S1x16x2048x64, .f32⟩
  | .hbm, ⟨90, _⟩ => ⟨S_, .f32⟩
  | .hbm, ⟨91, _⟩ => ⟨S1x16x2048x1, .f32⟩
  | .hbm, ⟨92, _⟩ => ⟨S1x16x2048x1, .f32⟩
  | .hbm, ⟨93, _⟩ => ⟨S1x16x2048x64, .f32⟩
  | .hbm, ⟨94, _⟩ => ⟨S1x16x2048x64, .f32⟩
  | .hbm, ⟨95, _⟩ => ⟨S1x16x2048x64, .f32⟩
  | _, _ => ⟨S1x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_cst_10 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== Proof.Softmax.lean ====
/- The mathematics of a softmax over extended reals: scores that are real or masked (`⊥`), their exponentials as real
   weights, the log-sum-exp of a row, and the merge of two partial softmaxes into one. No program is mentioned here. -/
module

public import Idealize.ShloMosaic.PureOps.Ideal
public import Mathlib.Analysis.SpecialFunctions.Pow.Real

@[expose] public section

noncomputable section

namespace Cert.Softmax

open Idealize.ShloMosaic

/-- A finite sum of reals, read as extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Multiplication by a nonnegative real distributes over a finite sum of arbitrary extended reals. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

/-- `x` is a score of weight `w`: masked, of weight zero, or a real of weight `exp x`. -/
def IsScore (x : EReal) (w : ℝ) : Prop := (x = ⊥ ∧ w = 0) ∨ ∃ r : ℝ, x = (r : EReal) ∧ w = Real.exp r

/-- A weight is nonnegative. -/
theorem IsScore.nonneg {x : EReal} {w : ℝ} (h : IsScore x w) : 0 ≤ w := by
  rcases h with ⟨-, rfl⟩ | ⟨r, -, rfl⟩
  · exact le_rfl
  · exact (Real.exp_pos r).le

/-- A score is not plus infinity. -/
theorem IsScore.ne_top {x : EReal} {w : ℝ} (h : IsScore x w) : x ≠ ⊤ := by
  rcases h with ⟨rfl, -⟩ | ⟨r, rfl, -⟩ <;> simp

/-- The exponential of a score less a real shift is its weight over the exponential of the shift. -/
theorem IsScore.exp_sub {x : EReal} {w : ℝ} (h : IsScore x w) (t : ℝ) :
    Ideal.exp (x - (t : EReal)) = ((w / Real.exp t : ℝ) : EReal) := by
  rcases h with ⟨rfl, rfl⟩ | ⟨r, rfl, rfl⟩
  · simp
  · rw [← EReal.coe_sub, Ideal.exp_coe, Real.exp_sub]

/-- The total weight of a row of scores, one of which is not masked, is positive. -/
theorem sum_pos {ι : Type} [Fintype ι] {s : ι → EReal} {w : ι → ℝ} (hs : ∀ j, IsScore (s j) (w j)) (j₀ : ι) (h₀ : s j₀ ≠ ⊥) :
    0 < ∑ j, w j := by
  refine Finset.sum_pos' (fun j _ => (hs j).nonneg) ⟨j₀, Finset.mem_univ _, ?_⟩
  rcases hs j₀ with ⟨h, -⟩ | ⟨r, -, h⟩
  · exact absurd h h₀
  · rw [h]; exact Real.exp_pos r

/-- The maximum of a row of scores, one of which is not masked, is real. -/
theorem top_real {ι : Type} [Fintype ι] {s : ι → EReal} {w : ι → ℝ} (hs : ∀ j, IsScore (s j) (w j)) (j₀ : ι) (h₀ : s j₀ ≠ ⊥) :
    ∃ t : ℝ, Finset.univ.fold max ⊥ s = (t : EReal) := by
  have hsup : Finset.univ.fold max ⊥ s = Finset.univ.sup s := rfl
  have hne : Finset.univ.sup s ≠ ⊥ := fun h => h₀ (le_bot_iff.1 (h ▸ Finset.le_sup (Finset.mem_univ j₀)))
  have hnt : Finset.univ.sup s ≠ ⊤ :=
    ((Finset.sup_lt_iff (bot_lt_top)).2 fun j _ => lt_top_iff_ne_top.2 (hs j).ne_top).ne
  exact ⟨_, by rw [hsup, EReal.coe_toReal hnt hne]⟩

/-- The log-sum-exp of a row of scores, computed at the row's maximum, is the logarithm of the total weight. -/
theorem lse {ι : Type} [Fintype ι] {s : ι → EReal} {w : ι → ℝ} (hs : ∀ j, IsScore (s j) (w j)) (j₀ : ι) (h₀ : s j₀ ≠ ⊥) :
    Ideal.log (∑ j, Ideal.exp (s j - Finset.univ.fold max ⊥ s)) + Finset.univ.fold max ⊥ s
      = ((Real.log (∑ j, w j) : ℝ) : EReal) := by
  obtain ⟨t, ht⟩ := top_real hs j₀ h₀
  have hp := sum_pos hs j₀ h₀
  have hq : 0 < (∑ j, w j) / Real.exp t := div_pos hp (Real.exp_pos t)
  rw [ht, Finset.sum_congr rfl fun j _ => (hs j).exp_sub t, ← coe_sum, ← Finset.sum_div, Ideal.log_coe, if_neg hq.not_ge,
    Real.log_div hp.ne' (Real.exp_pos t).ne', Real.log_exp, ← EReal.coe_add, sub_add_cancel]

/-- A score less the logarithm of a positive total, exponentiated, is its share of that total. -/
theorem IsScore.share {x : EReal} {w : ℝ} (h : IsScore x w) {L : ℝ} (hL : 0 < L) :
    Ideal.exp (x - ((Real.log L : ℝ) : EReal)) = ((w / L : ℝ) : EReal) := by
  rw [h.exp_sub, Real.exp_log hL]

/-- The merge coefficient of two rows whose log-sum-exps are `log L₁` and a score of weight `L₂`: the first row's share of the
    joint total. -/
theorem merge_coeff {l : EReal} {L₁ L₂ : ℝ} (h : IsScore l L₂) (h₁ : 0 < L₁) :
    Ideal.div 1 (1 + Ideal.exp (l - ((Real.log L₁ : ℝ) : EReal))) = ((L₁ / (L₁ + L₂) : ℝ) : EReal) := by
  have h₂ : 0 ≤ L₂ := h.nonneg
  have hne : (1 : ℝ) + L₂ / L₁ ≠ 0 := by positivity
  rw [h.share h₁, ← EReal.coe_one, ← EReal.coe_add, Ideal.div_coe hne, ← EReal.coe_mul]
  congr 1
  field_simp

/-- Rescaling a row's weighted mean of arbitrary values: `c · Σ (w / L) v = Σ (w / M) v` where `c = L / M`. -/
theorem rescale {ι : Type} [Fintype ι] {w : ι → ℝ} {v : ι → EReal} {c L M : ℝ} (hc : 0 ≤ c) (hL : L ≠ 0) (hcL : c = L / M) :
    (c : EReal) * ∑ j, ((w j / L : ℝ) : EReal) * v j = ∑ j, ((w j / M : ℝ) : EReal) * v j := by
  rw [coe_mul_sum _ _ hc]
  refine Finset.sum_congr rfl fun j _ => ?_
  rw [← mul_assoc, ← EReal.coe_mul]
  congr 2
  rw [hcL]
  rcases eq_or_ne M 0 with rfl | hM
  · simp
  · field_simp

/-- Normalising after the sum: weights `a · w`, `a > 0`, summed against the values and divided by their own sum, are the
    weighted mean with the weights `w / Σ w`. -/
theorem normalise {ι : Type} [Fintype ι] {w : ι → ℝ} {v : ι → EReal} {a : ℝ} (ha : 0 < a) (hw : 0 < ∑ j, w j) :
    Ideal.div (∑ j, ((a * w j : ℝ) : EReal) * v j) (∑ j, ((a * w j : ℝ) : EReal)) = ∑ j, ((w j / ∑ i, w i : ℝ) : EReal) * v j := by
  have hp : 0 < a * ∑ j, w j := mul_pos ha hw
  rw [← coe_sum, ← Finset.mul_sum, Ideal.div_coe hp.ne', mul_comm, coe_mul_sum _ _ (by positivity)]
  refine Finset.sum_congr rfl fun j _ => ?_
  rw [← mul_assoc, ← EReal.coe_mul]
  congr 2
  field_simp

end Cert.Softmax

end
-- ==== Proof.Spec.lean ====
/- What both programs compute, as one function of the three arguments: causal softmax attention, head by head. -/
module

public import proofs.«01_k».proof.Proof.Softmax
public import Idealize.ShloMosaic.Lib.Pointwise

@[expose] public section

noncomputable section

namespace Cert.Spec

open Idealize.ShloMosaic

/-- An index of an argument or of the result: batch (one), head, row, column. -/
abbrev SArr : Shape := ⟨4, ![1, 16, 2048, 64]⟩

/-- The score of query row `r` against key row `j` in head `h`: their inner product over `8 = √64`. -/
def score (q k : SArr.Idx → ℝ) (h : Fin 16) (r j : Fin 2048) : ℝ :=
  (∑ d : Fin 64, q (ix4 0 h r d) * k (ix4 0 h j d)) * (1 / 8)

/-- The unnormalised causal weight: the exponential of the score for a key at or before the query, zero for a later key. -/
def weight (q k : SArr.Idx → ℝ) (h : Fin 16) (r j : Fin 2048) : ℝ :=
  if j.val ≤ r.val then Real.exp (score q k h r j) else 0

/-- The total weight of a query row. -/
def total (q k : SArr.Idx → ℝ) (h : Fin 16) (r : Fin 2048) : ℝ := ∑ j, weight q k h r j

/-- Causal attention: each query row's weighted mean of the value rows. The values are arbitrary extended reals. -/
def attend (q k : SArr.Idx → ℝ) (v : SArr.Idx → EReal) (h : Fin 16) (r : Fin 2048) (d : Fin 64) : EReal :=
  ∑ j, ((weight q k h r j / total q k h r : ℝ) : EReal) * v (ix4 0 h j d)

/-- A weight is nonnegative. -/
theorem weight_nonneg (q k : SArr.Idx → ℝ) (h : Fin 16) (r j : Fin 2048) : 0 ≤ weight q k h r j := by
  unfold weight; split
  · exact (Real.exp_pos _).le
  · exact le_rfl

/-- A key after the query has weight zero. -/
theorem weight_of_lt (q k : SArr.Idx → ℝ) (h : Fin 16) (r j : Fin 2048) (hj : r.val < j.val) : weight q k h r j = 0 :=
  if_neg (by omega)

/-- A key at or before the query has positive weight. -/
theorem weight_pos (q k : SArr.Idx → ℝ) (h : Fin 16) (r j : Fin 2048) (hj : j.val ≤ r.val) : 0 < weight q k h r j := by
  rw [weight, if_pos hj]; exact Real.exp_pos _

/-- Every query row has positive total weight: it sees itself. -/
theorem total_pos (q k : SArr.Idx → ℝ) (h : Fin 16) (r : Fin 2048) : 0 < total q k h r :=
  Finset.sum_pos' (fun j _ => weight_nonneg q k h r j) ⟨r, Finset.mem_univ _, weight_pos q k h r r le_rfl⟩

/-- The inner product of two real rows, read as extended reals. -/
theorem coe_inner {n : ℕ} (a b : Fin n → ℝ) : ∑ d, (a d : EReal) * (b d : EReal) = ((∑ d, a d * b d : ℝ) : EReal) := by
  rw [Softmax.coe_sum]; exact Finset.sum_congr rfl fun d _ => (EReal.coe_mul _ _).symm

/-- The masked score of a query row against a key row is a score of that key's weight. -/
theorem isScore (q k : SArr.Idx → ℝ) (h : Fin 16) (r j : Fin 2048) (p : Prop) [Decidable p] (hp : p ↔ j.val ≤ r.val) :
    Softmax.IsScore (if p then (∑ d : Fin 64, (q (ix4 0 h r d) : EReal) * (k (ix4 0 h j d) : EReal)) * ((1 / 8 : ℝ) : EReal) else ⊥)
      (weight q k h r j) := by
  by_cases hjr : j.val ≤ r.val
  · rw [if_pos (hp.2 hjr), weight, if_pos hjr]
    exact .inr ⟨_, by rw [coe_inner, ← EReal.coe_mul]; rfl, rfl⟩
  · rw [if_neg (fun x => hjr (hp.1 x)), weight, if_neg hjr]
    exact .inl ⟨rfl, rfl⟩

end Cert.Spec

end
-- ==== Proof.Band.lean ====
/- What one band of 512 query rows computes, in real numbers. The band starts at row `w`; its scores are taken in base two,
   less a bound of the row, against the `512` keys of the band itself (masked above the diagonal) and the `w` keys before it.
   Whatever real number the bound is, the quotient of the two weighted sums is the row's causal attention. -/
module

public import proofs.«01_k».proof.Proof.Spec

@[expose] public section

noncomputable section

namespace Cert.Band

open Idealize.ShloMosaic Cert.Spec

/-- Row `i` of the band that starts at row `w`. -/
def row (w : ℕ) (hw : w + 512 ≤ 2048) (i : Fin 512) : Fin 2048 := ⟨w + i.val, by omega⟩

/-- Row `x` before the band that starts at row `w`. -/
def low (w : ℕ) (hw : w + 512 ≤ 2048) (x : Fin w) : Fin 2048 := ⟨x.val, by omega⟩

/-- The factor on the query: `1 / 8` for the score and `1 / log 2` for base two. -/
abbrev sc : ℝ := (1 / 8) * (Real.log 2)⁻¹

/-- The common factor of a row's weights: two to the minus the row's bound, the query row's norm times `n`. -/
def shift (q : SArr.Idx → ℝ) (n : ℝ) (h : Fin 16) (r : Fin 2048) : ℝ :=
  Real.rpow 2 (-(Real.sqrt (∑ d : Fin 64, q (ix4 0 h r d) * sc * (q (ix4 0 h r d) * sc)) * n))

/-- That factor is positive. -/
theorem shift_pos (q : SArr.Idx → ℝ) (n : ℝ) (h : Fin 16) (r : Fin 2048) : 0 < shift q n h r :=
  Real.rpow_pos_of_pos two_pos _

/-- Two to a score in base two less a bound is two to the minus the bound times the exponential of the score. -/
theorem rpow_score (x b : ℝ) : Real.rpow 2 (x * (Real.log 2)⁻¹ - b) = Real.rpow 2 (-b) * Real.exp x := by
  have hl : Real.log 2 ≠ 0 := (Real.log_pos one_lt_two).ne'
  show (2 : ℝ) ^ (x * (Real.log 2)⁻¹ - b) = (2 : ℝ) ^ (-b) * Real.exp x
  rw [sub_eq_neg_add, Real.rpow_add two_pos, Real.rpow_def_of_pos two_pos (x * _), mul_comm x, ← mul_assoc,
    mul_inv_cancel₀ hl, one_mul]

/-- The inner product of the scaled query row with a key row is the score in base two. -/
theorem scaled_inner (q k : SArr.Idx → ℝ) (h : Fin 16) (r j : Fin 2048) :
    ∑ d : Fin 64, (q (ix4 0 h r d) : EReal) * (sc : EReal) * (k (ix4 0 h j d) : EReal)
      = ((score q k h r j * (Real.log 2)⁻¹ : ℝ) : EReal) := by
  have e : score q k h r j * (Real.log 2)⁻¹ = ∑ d : Fin 64, q (ix4 0 h r d) * sc * k (ix4 0 h j d) := by
    rw [score, mul_assoc, Finset.sum_mul]
    exact Finset.sum_congr rfl fun d _ => by ring
  rw [e, Softmax.coe_sum]
  exact Finset.sum_congr rfl fun d _ => by rw [EReal.coe_mul (_ * _) (k _), EReal.coe_mul (q _) _]

/-- The norm of the scaled query row is real. -/
theorem scaled_norm (q : SArr.Idx → ℝ) (h : Fin 16) (r : Fin 2048) :
    Ideal.sqrt (∑ d : Fin 64, (q (ix4 0 h r d) : EReal) * (sc : EReal) * ((q (ix4 0 h r d) : EReal) * (sc : EReal)))
      = ((Real.sqrt (∑ d : Fin 64, q (ix4 0 h r d) * sc * (q (ix4 0 h r d) * sc)) : ℝ) : EReal) := by
  simp only [← EReal.coe_mul]
  rw [← Softmax.coe_sum, Ideal.sqrt_coe, if_neg (Finset.sum_nonneg fun d _ => mul_self_nonneg _).not_gt]

/-- The weight the band gives a key, masked where `p` fails: the row's common factor times the key's causal weight. -/
theorem exp2_weight (q k : SArr.Idx → ℝ) (n : ℝ) (h : Fin 16) (r j : Fin 2048) (p : Prop) [Decidable p] (hp : p ↔ j.val ≤ r.val) :
    Ideal.exp2 ((if p then ∑ d : Fin 64, (q (ix4 0 h r d) : EReal) * (sc : EReal) * (k (ix4 0 h j d) : EReal) else ⊥)
        - Ideal.sqrt (∑ d : Fin 64, (q (ix4 0 h r d) : EReal) * (sc : EReal) * ((q (ix4 0 h r d) : EReal) * (sc : EReal))) * (n : EReal))
      = ((shift q n h r * weight q k h r j : ℝ) : EReal) := by
  rw [scaled_norm, scaled_inner, ← EReal.coe_mul]
  by_cases hjr : j.val ≤ r.val
  · rw [if_pos (hp.2 hjr), weight, if_pos hjr, ← EReal.coe_sub, Ideal.exp2_coe, rpow_score]; rfl
  · rw [if_neg (fun x => hjr (hp.1 x)), weight, if_neg hjr, mul_zero]; simp

/-- The same for a key that is at or before the row, which the kernel does not mask. -/
theorem exp2_weight_low (q k : SArr.Idx → ℝ) (n : ℝ) (h : Fin 16) (r j : Fin 2048) (hj : j.val ≤ r.val) :
    Ideal.exp2 ((∑ d : Fin 64, (q (ix4 0 h r d) : EReal) * (sc : EReal) * (k (ix4 0 h j d) : EReal))
        - Ideal.sqrt (∑ d : Fin 64, (q (ix4 0 h r d) : EReal) * (sc : EReal) * ((q (ix4 0 h r d) : EReal) * (sc : EReal))) * (n : EReal))
      = ((shift q n h r * weight q k h r j : ℝ) : EReal) := by
  rw [← exp2_weight q k n h r j True ⟨fun _ => hj, fun _ => trivial⟩, if_pos trivial]

/-- The largest norm of a key row is real. -/
theorem norm_real (k : SArr.Idx → ℝ) (h : Fin 16) :
    ∃ n : ℝ, Ideal.sqrt (Finset.univ.fold max ⊥ fun j : Fin 2048 =>
      ∑ d : Fin 64, (k (ix4 0 h j d) : EReal) * (k (ix4 0 h j d) : EReal)) = (n : EReal) := by
  obtain ⟨t, ht⟩ := Softmax.top_real (s := fun j : Fin 2048 => ∑ d : Fin 64, (k (ix4 0 h j d) : EReal) * (k (ix4 0 h j d) : EReal))
    (w := fun j => Real.exp (∑ d : Fin 64, k (ix4 0 h j d) * k (ix4 0 h j d)))
    (fun j => .inr ⟨_, coe_inner _ _, rfl⟩) 0 (by rw [coe_inner]; exact EReal.coe_ne_bot _)
  have h0 : 0 ≤ t := by
    have hle : (fun j : Fin 2048 => ∑ d : Fin 64, (k (ix4 0 h j d) : EReal) * (k (ix4 0 h j d) : EReal)) 0 ≤ (t : EReal) :=
      ht ▸ Finset.le_sup (f := fun j : Fin 2048 => ∑ d : Fin 64, (k (ix4 0 h j d) : EReal) * (k (ix4 0 h j d) : EReal)) (Finset.mem_univ 0)
    beta_reduce at hle
    rw [coe_inner] at hle
    exact le_trans (Finset.sum_nonneg fun d _ => mul_self_nonneg _) (EReal.coe_le_coe_iff.1 hle)
  exact ⟨Real.sqrt t, by rw [ht, Ideal.sqrt_coe, if_neg h0.not_gt]⟩

/-- A sum over the keys that vanishes past the band is the sum over the band's own keys plus the sum over the keys before it. -/
theorem band_sum (w : ℕ) (hw : w + 512 ≤ 2048) (f : Fin 2048 → EReal) (hf : ∀ j : Fin 2048, w + 512 ≤ j.val → f j = 0) :
    ∑ x, f (row w hw x) + ∑ x, f (low w hw x) = ∑ j, f j := by
  obtain ⟨e, he⟩ := Nat.exists_eq_add_of_le hw
  have key : ∀ (N : ℕ) (hN : N = w + 512 + e) (g : Fin N → EReal), (∀ j : Fin N, w + 512 ≤ j.val → g j = 0) →
      ∑ x : Fin 512, g ⟨w + x.val, by omega⟩ + ∑ x : Fin w, g ⟨x.val, by omega⟩ = ∑ j, g j := by
    rintro _ rfl g hg
    rw [Fin.sum_univ_add, Fin.sum_univ_add, Finset.sum_eq_zero (s := (Finset.univ : Finset (Fin e))) (fun j _ => hg _ (by simp)), add_zero, add_comm]
    rfl
  exact key 2048 he f hf

/-- Weights `a · weight`, summed against the values over the band's own keys and the keys before it and divided by their own
    sum, are the row's causal attention. -/
theorem quotient (w : ℕ) (hw : w + 512 ≤ 2048) (q k : SArr.Idx → ℝ) (v : SArr.Idx → EReal) (h : Fin 16) (i : Fin 512) (d : Fin 64)
    {a : ℝ} (ha : 0 < a) {pd vd od : Fin 512 → EReal} {pl vl ol : Fin w → EReal}
    (hpd : ∀ x, pd x = ((a * weight q k h (row w hw i) (row w hw x) : ℝ) : EReal))
    (hpl : ∀ x, pl x = ((a * weight q k h (row w hw i) (low w hw x) : ℝ) : EReal))
    (hvd : ∀ x, vd x = v (ix4 0 h (row w hw x) d)) (hvl : ∀ x, vl x = v (ix4 0 h (low w hw x) d))
    (hod : ∀ x, od x = 1) (hol : ∀ x, ol x = 1) :
    Ideal.div (∑ x, pd x * vd x + ∑ x, pl x * vl x) (∑ x, pd x * od x + ∑ x, pl x * ol x) = attend q k v h (row w hw i) d := by
  have hz : ∀ j : Fin 2048, w + 512 ≤ j.val → weight q k h (row w hw i) j = 0 := fun j hj =>
    weight_of_lt _ _ _ _ _ (by show w + i.val < j.val; omega)
  simp only [hpd, hpl, hvd, hvl, hod, hol, mul_one]
  rw [band_sum w hw (fun j => ((a * weight q k h (row w hw i) j : ℝ) : EReal) * v (ix4 0 h j d)) (fun j hj => by rw [hz j hj]; simp),
    band_sum w hw (fun j => ((a * weight q k h (row w hw i) j : ℝ) : EReal)) (fun j hj => by rw [hz j hj]; simp)]
  exact Softmax.normalise ha (total_pos q k h _)

end Cert.Band

end
-- ==== Proof.Payload.lean ====
/- The kernel's four stores, one for each band of query rows: read at an index, each is the quotient of `Band.quotient`, so each
   stores the causal attention of its rows, whatever arrays of the right contents were loaded. -/
module

public import proofs.«01_k».proof.Proof.Band
public import proofs.«01_k».proof.Proof.Gen.KernelIdeal.Skeleton
public import Idealize.ShloMosaic.Lib.WordCmp

@[expose] public section

set_option maxRecDepth 16384

noncomputable section

namespace Cert.KernelIdeal.Payload

open Idealize.ShloMosaic
open Cert.KernelIdeal Cert.KernelIdeal.Gen Cert.Spec Cert.Band

/-- What a band loads for its own 512 keys: the head's keys `K`, the band's queries `Q`, keys `kd`, and values `vd` followed by
    columns of ones. -/
structure Own (w : ℕ) (hw : w + 512 ≤ 2048) (h : Fin 16) (q k : SArr.Idx → ℝ) (v : SArr.Idx → EReal)
    (K : FVec Ideal S1x1x2048x64 .f32) (Q : FVec Ideal S1x1x512x64 .f32) (kd : FVec Ideal S512x64 .bf16)
    (vd : FVec Ideal S512x128 .bf16) : Prop where
  K_eq : ∀ j d, K (ix4 0 0 j d) = (k (ix4 0 h j d) : EReal)
  Q_eq : ∀ i d, Q (ix4 0 0 i d) = (q (ix4 0 h (row w hw i) d) : EReal)
  kd_eq : ∀ x d, kd (ix2 x d) = (k (ix4 0 h (row w hw x) d) : EReal)
  vd_eq : ∀ x (d : Fin 64), vd (ix2 x ⟨d.val, by omega⟩) = v (ix4 0 h (row w hw x) d)
  vd_one : ∀ x, vd (ix2 x 64) = 1

/-- What a band loads for the `w` keys before it: their keys `kl`, and their values `vl` followed by columns of ones. -/
structure Before (w : ℕ) (hw : w + 512 ≤ 2048) (h : Fin 16) (k : SArr.Idx → ℝ) (v : SArr.Idx → EReal)
    (kl : FVec Ideal ⟨2, ![w, 64]⟩ .bf16) (vl : FVec Ideal ⟨2, ![w, 128]⟩ .bf16) : Prop where
  kl_eq : ∀ x d, kl (ix2 x d) = (k (ix4 0 h (low w hw x) d) : EReal)
  vl_eq : ∀ x (d : Fin 64), vl (ix2 x ⟨d.val, by omega⟩) = v (ix4 0 h (low w hw x) d)
  vl_one : ∀ x, vl (ix2 x 64) = 1

/-- The factor on the query, as the kernel names it. -/
theorem scale2 : Named.named (F := Ideal) (φ := .f32) κ "scale2" 0x3E38AA3B#32 = (sc : EReal) :=
  IdealRules.named_const.ideal_named_scalar _ _ _ _ rfl

/-- The mask is minus infinity. -/
theorem mask : Named.named (F := Ideal) (φ := .f32) κ "mask" 0xF149F2CA#32 = (⊥ : EReal) :=
  IdealRules.named_const.ideal_named_scalar _ _ _ _ rfl

variable {h : Fin 16} {q k : SArr.Idx → ℝ} {v : SArr.Idx → EReal} {K : FVec Ideal S1x1x2048x64 .f32}
  {Q : FVec Ideal S1x1x512x64 .f32} {kd : FVec Ideal S512x64 .bf16} {vd : FVec Ideal S512x128 .bf16}

/-- The literal a maximum starts from is minus infinity. -/
theorem lit_bot : Ideal.ofBits .f32 0xFF800000#32 = ⊥ := by simp [Ideal.ofBits, Ideal.ieee]

/-- The scalar square root is the extended reals' own. -/
theorem sqrt_eq (x : EReal) : Scalar.sqrt (F := Ideal) (φ := .f32) x = Ideal.sqrt x := rfl

/-- The largest key norm of the head, which the kernel bounds its scores by, is real. -/
theorem knorm (hK : ∀ j d, K (ix4 0 0 j d) = (k (ix4 0 h j d) : EReal)) : ∃ n : ℝ, k0_pay6 (F := Ideal) K = (n : EReal) := by
  obtain ⟨n, hn⟩ := norm_real k h
  refine ⟨n, ?_⟩
  unfold k0_pay6
  pointwise [k0_pay2]
  simp only [hK]
  rw [lit_bot]
  rw [sqrt_eq, hn]

/-- The quotient of `Band.quotient` at what a band loads. -/
theorem quotient_at {w : ℕ} {hw : w + 512 ≤ 2048} {kl : FVec Ideal ⟨2, ![w, 64]⟩ .bf16} {vl : FVec Ideal ⟨2, ![w, 128]⟩ .bf16}
    (o : Own w hw h q k v K Q kd vd) (b : Before w hw h k v kl vl) (n : ℝ) (i : Fin 512) (d : Fin 64) :
    let qs : Fin 64 → EReal := fun d => (q (ix4 0 h (row w hw i) d) : EReal) * (sc : EReal)
    let bd : EReal := Ideal.sqrt (∑ d, qs d * qs d) * (n : EReal)
    let pd : Fin 512 → EReal := fun x =>
      Ideal.exp2 ((if x.val ≤ i.val then ∑ d, qs d * (k (ix4 0 h (row w hw x) d) : EReal) else ⊥) - bd)
    let pl : Fin w → EReal := fun x => Ideal.exp2 ((∑ d, qs d * (k (ix4 0 h (low w hw x) d) : EReal)) - bd)
    Ideal.div (∑ x, pd x * vd (ix2 x ⟨d.val, by omega⟩) + ∑ x, pl x * vl (ix2 x ⟨d.val, by omega⟩))
        (∑ x, pd x * vd (ix2 x 64) + ∑ x, pl x * vl (ix2 x 64))
      = attend q k v h (row w hw i) d :=
  quotient w hw q k v h i d (shift_pos q n h (row w hw i))
    (fun x => exp2_weight q k n h (row w hw i) (row w hw x) (x.val ≤ i.val) (by simp [row]))
    (fun x => exp2_weight_low q k n h (row w hw i) (low w hw x) (by simp only [row, low]; omega))
    (fun x => o.vd_eq x d) (fun x => b.vl_eq x d) o.vd_one b.vl_one

/-- The first band has no keys before it. -/
theorem band0 {hw : 0 + 512 ≤ 2048} (o : Own 0 hw h q k v K Q kd vd) (i : Fin 512) (d : Fin 64) :
    k0_pay11 (F := Ideal) (k0_pay6 K) k0_pay7 (k0_pay9 Q) (k0_pay10 Q) kd vd (ix4 0 0 i d) = attend q k v h (row 0 hw i) d := by
  obtain ⟨n, hn⟩ := knorm o.K_eq
  pointwise [k0_pay11, k0_pay7, k0_pay8, k0_pay9, k0_pay10]
  word_cmp
  rw [hn, scale2, mask]
  simp only [o.Q_eq, o.kd_eq]
  have e := quotient_at o (kl := fun _ => 0) (vl := fun _ => 0) ⟨fun x => x.elim0, fun x => x.elim0, fun x => x.elim0⟩ n i d
  simp only [Fin.sum_univ_zero, add_zero] at e
  exact e

/-- The second band, rows 512 to 1023. -/
theorem band1 {hw : 512 + 512 ≤ 2048} {kl : FVec Ideal S512x64 .bf16} {vl : FVec Ideal S512x128 .bf16}
    (o : Own 512 hw h q k v K Q kd vd) (b : Before 512 hw h k v kl vl) (i : Fin 512) (d : Fin 64) :
    k0_pay16 (F := Ideal) (k0_pay13 Q) (k0_pay14 (k0_pay6 K) Q) (k0_pay15 k0_pay7 Q kd) kl vd vl (ix4 0 0 i d)
      = attend q k v h (row 512 hw i) d := by
  obtain ⟨n, hn⟩ := knorm o.K_eq
  pointwise [k0_pay16, k0_pay7, k0_pay12, k0_pay13, k0_pay14, k0_pay15]
  word_cmp
  rw [hn, scale2, mask]
  simp only [o.Q_eq, o.kd_eq, b.kl_eq]
  exact quotient_at o b n i d

/-- The third band, rows 1024 to 1535. -/
theorem band2 {hw : 1024 + 512 ≤ 2048} {kl : FVec Ideal S1024x64 .bf16} {vl : FVec Ideal S1024x128 .bf16}
    (o : Own 1024 hw h q k v K Q kd vd) (b : Before 1024 hw h k v kl vl) (i : Fin 512) (d : Fin 64) :
    k0_pay21 (F := Ideal) (k0_pay18 Q) (k0_pay19 (k0_pay6 K) Q) (k0_pay20 k0_pay7 Q kd) kl vd vl (ix4 0 0 i d)
      = attend q k v h (row 1024 hw i) d := by
  obtain ⟨n, hn⟩ := knorm o.K_eq
  pointwise [k0_pay21, k0_pay7, k0_pay17, k0_pay18, k0_pay19, k0_pay20]
  word_cmp
  rw [hn, scale2, mask]
  simp only [o.Q_eq, o.kd_eq, b.kl_eq]
  exact quotient_at o b n i d

/-- The fourth band, rows 1536 to 2047. -/
theorem band3 {hw : 1536 + 512 ≤ 2048} {kl : FVec Ideal S1536x64 .bf16} {vl : FVec Ideal S1536x128 .bf16}
    (o : Own 1536 hw h q k v K Q kd vd) (b : Before 1536 hw h k v kl vl) (i : Fin 512) (d : Fin 64) :
    k0_pay1 (F := Ideal) k0_pay7 (k0_pay23 Q) (k0_pay24 (k0_pay6 K) Q) (k0_pay25 Q kd) k0_pay26 kl vd vl (ix4 0 0 i d)
      = attend q k v h (row 1536 hw i) d := by
  obtain ⟨n, hn⟩ := knorm o.K_eq
  pointwise [k0_pay1, k0_pay7, k0_pay22, k0_pay23, k0_pay24, k0_pay25, k0_pay26]
  word_cmp
  rw [hn, scale2, mask]
  simp only [o.Q_eq, o.kd_eq, b.kl_eq]
  exact quotient_at o b n i d

end Cert.KernelIdeal.Payload

end
-- ==== Proof.Loads.lean ====
/- The kernel's two scratch arrays, as the bands read them back: the head's keys, and the head's values followed by 64 columns
   of ones. -/
module

public import proofs.«01_k».proof.Proof.Payload
public import Idealize.ShloMosaic.Lib.Pipeline.ValueKit

@[expose] public section

set_option maxRecDepth 16384

noncomputable section

namespace Cert.KernelIdeal.Loads

open Idealize.ShloMosaic Cert.KernelIdeal Cert.KernelIdeal.Gen

variable {sp : Space} {κ' : Kind}

/-- The kernel stores the keys as they are; -/
theorem pay3_at (X : FVec Ideal S1x1x2048x64 .f32) (j : Fin 2048) (d : Fin 64) :
    k0_pay3 (F := Ideal) X (ix2 j d) = X (ix4 0 0 j d) := by
  pointwise [k0_pay3, k0_pay2]

/-- the values as they are; -/
theorem pay4_at (X : FVec Ideal S1x1x2048x64 .f32) (j : Fin 2048) (d : Fin 64) :
    k0_pay4 (F := Ideal) X (ix2 j d) = X (ix4 0 0 j d) := by
  pointwise [k0_pay4]

/-- and ones after them. -/
theorem pay5_at (j : Fin 2048) (d : Fin 64) : k0_pay5 (F := Ideal) (ix2 j d) = 1 := by
  pointwise [k0_pay5]

/-- A load of `n` rows of the key scratch from row `o`. -/
theorem keys_at (vw : View sig κ' sp S2048x64 .bf16) (X : FVec Ideal S1x1x2048x64 .f32) (o n : ℕ) (hn : o + n ≤ 2048)
    (inbP : ∀ a, (![0, 0] : Fin 2 → ℕ) a + (![2048, 64] : Fin 2 → ℕ) a ≤ S2048x64.size a)
    (inbB : ∀ a, (![o, 0] : Fin 2 → ℕ) a + (![n, 64] : Fin 2 → ℕ) a ≤ S2048x64.size a) (x : Fin n) (d : Fin 64) :
    vw.readCov (Val := Elt Ideal)
      [(⟨Rect.unit (s := S2048x64) ![0, 0] ![2048, 64] inbP, k0_pay3 (F := Ideal) X⟩ : View.Piece (Elt Ideal) S2048x64 .bf16)]
      (Rect.unit (s := S2048x64) ![o, 0] ![n, 64] inbB).toLoadRect (ix2 x d : (⟨2, ![n, 64]⟩ : Shape).Idx)
      = X (ix4 0 0 ⟨o + x.val, by omega⟩ d) := by
  rw [View.readCov_eq_canon', View.canon_unit_zero (by funext a; fin_cases a <;> rfl), ← pay3_at X]
  refine congrArg _ (funext fun a => Fin.ext ?_)
  fin_cases a
  · show o + 1 * x.val = o + x.val; omega
  · show 0 + 1 * d.val = d.val; omega

/-- A load of `n` rows of the value scratch from row `o`. -/
theorem values_at (vw : View sig κ' sp S2048x128 .bf16) (X : FVec Ideal S1x1x2048x64 .f32) (o n : ℕ) (hn : o + n ≤ 2048)
    (inb1 : ∀ a, (![0, 64] : Fin 2 → ℕ) a + (![2048, 64] : Fin 2 → ℕ) a ≤ S2048x128.size a)
    (inb0 : ∀ a, (![0, 0] : Fin 2 → ℕ) a + (![2048, 64] : Fin 2 → ℕ) a ≤ S2048x128.size a)
    (inbB : ∀ a, (![o, 0] : Fin 2 → ℕ) a + (![n, 128] : Fin 2 → ℕ) a ≤ S2048x128.size a) (x : Fin n) (d : Fin 128) :
    vw.readCov (Val := Elt Ideal)
      [(⟨Rect.unit (s := S2048x128) ![0, 64] ![2048, 64] inb1, k0_pay5 (F := Ideal)⟩ : View.Piece (Elt Ideal) S2048x128 .bf16),
       (⟨Rect.unit (s := S2048x128) ![0, 0] ![2048, 64] inb0, k0_pay4 (F := Ideal) X⟩ : View.Piece (Elt Ideal) S2048x128 .bf16)]
      (Rect.unit (s := S2048x128) ![o, 0] ![n, 128] inbB).toLoadRect (ix2 x d : (⟨2, ![n, 128]⟩ : Shape).Idx)
      = if hd : d.val < 64 then X (ix4 0 0 ⟨o + x.val, by omega⟩ ⟨d.val, hd⟩) else (1 : EReal) := by
  rw [View.readCov_eq_canon']
  have hi : (Rect.unit (s := S2048x128) ![o, 0] ![n, 128] inbB).toLoadRect.idx (ix2 x d : (⟨2, ![n, 128]⟩ : Shape).Idx)
      = (ix2 (⟨o + x.val, by omega⟩ : Fin 2048) d : S2048x128.Idx) := by
    funext a; refine Fin.ext ?_
    fin_cases a
    · show o + 1 * x.val = o + x.val; omega
    · show 0 + 1 * d.val = d.val; omega
  beta_reduce
  rw [hi]
  refine (View.canon_apply_of_pieces (Val := Elt Ideal) (S := S2048x128) (e := .bf16)
    (fun y => if hd : (y 1).val < 64 then X (ix4 0 0 (y 0) ⟨(y 1).val, hd⟩) else (1 : EReal)) _ ?_ _ ?_)
  · intro p hp
    rw [List.mem_cons, List.mem_singleton] at hp
    rcases hp with rfl | rfl
    · intro (z : S2048x64.Idx)
      obtain ⟨j, c, rfl⟩ : ∃ (j : Fin 2048) (c : Fin 64), z = ix2 j c := ⟨_, _, eq_ix2 z⟩
      refine (pay5_at j c).trans (Eq.symm (dif_neg ?_))
      show ¬ (64 + 1 * c.val < 64)
      omega
    · intro (z : S2048x64.Idx)
      obtain ⟨j, c, rfl⟩ : ∃ (j : Fin 2048) (c : Fin 64), z = ix2 j c := ⟨_, _, eq_ix2 z⟩
      refine (pay4_at X j c).trans ?_
      beta_reduce
      refine Eq.trans ?_ (dif_pos (show 0 + 1 * c.val < 64 by omega)).symm
      refine congrArg X (funext fun a => Fin.ext ?_)
      fin_cases a
      · rfl
      · rfl
      · show j.val = 0 + 1 * j.val; omega
      · show c.val = 0 + 1 * c.val; omega
  · by_cases hd : d.val < 64
    · refine ⟨_, List.mem_cons_of_mem _ (List.mem_singleton_self _), (Rect.mem_set_unit (inb := inb0)).2 fun a => ?_⟩
      fin_cases a
      · show 0 ≤ o + x.val ∧ o + x.val < 0 + 2048; omega
      · show 0 ≤ d.val ∧ d.val < 0 + 64; omega
    · refine ⟨_, List.mem_cons_self, (Rect.mem_set_unit (inb := inb1)).2 fun a => ?_⟩
      fin_cases a
      · show 0 ≤ o + x.val ∧ o + x.val < 0 + 2048; omega
      · show 64 ≤ d.val ∧ d.val < 64 + 64; omega

/-- A load of 512 rows of a block from row `o`. -/
theorem rows_at (X : FVec Ideal S1x1x2048x64 .f32) (o : ℕ) (ho : o + 512 ≤ 2048)
    (inb : ∀ a, (![0, 0, o, 0] : Fin 4 → ℕ) a + (![1, 1, 512, 64] : Fin 4 → ℕ) a ≤ S1x1x2048x64.size a) (i : Fin 512) (d : Fin 64) :
    View.ld (Val := Elt Ideal) (e' := .f32) X (Rect.unit (s := S1x1x2048x64) ![0, 0, o, 0] ![1, 1, 512, 64] inb)
      (ix4 0 0 i d : S1x1x512x64.Idx) = X (ix4 0 0 ⟨o + i.val, by omega⟩ d) := by
  refine congrArg X (funext fun a => Fin.ext ?_)
  fin_cases a
  · rfl
  · rfl
  · show o + 1 * i.val = o + i.val; omega
  · show 0 + 1 * d.val = d.val; omega

section Bands

open Cert.Spec Cert.Band Cert.KernelIdeal.Payload

variable {h : Fin 16} {q k : SArr.Idx → ℝ} {v : SArr.Idx → EReal} {X0 X1 X2 : FVec Ideal S1x1x2048x64 .f32}

/-- From blocks that hold head `h`, the band that starts at row `w` loads what `Payload.Own` says. -/
theorem own (e0 : ∀ r d, X0 (ix4 0 0 r d) = (q (ix4 0 h r d) : EReal)) (e1 : ∀ r d, X1 (ix4 0 0 r d) = (k (ix4 0 h r d) : EReal))
    (e2 : ∀ r d, X2 (ix4 0 0 r d) = v (ix4 0 h r d)) (vk : View sig κ' sp S2048x64 .bf16) (vv : View sig κ' sp S2048x128 .bf16)
    (w : ℕ) (hw : w + 512 ≤ 2048)
    (inbQ : ∀ a, (![0, 0, w, 0] : Fin 4 → ℕ) a + (![1, 1, 512, 64] : Fin 4 → ℕ) a ≤ S1x1x2048x64.size a)
    (inbP : ∀ a, (![0, 0] : Fin 2 → ℕ) a + (![2048, 64] : Fin 2 → ℕ) a ≤ S2048x64.size a)
    (inbB : ∀ a, (![w, 0] : Fin 2 → ℕ) a + (![512, 64] : Fin 2 → ℕ) a ≤ S2048x64.size a)
    (inb1 : ∀ a, (![0, 64] : Fin 2 → ℕ) a + (![2048, 64] : Fin 2 → ℕ) a ≤ S2048x128.size a)
    (inb0 : ∀ a, (![0, 0] : Fin 2 → ℕ) a + (![2048, 64] : Fin 2 → ℕ) a ≤ S2048x128.size a)
    (inbV : ∀ a, (![w, 0] : Fin 2 → ℕ) a + (![512, 128] : Fin 2 → ℕ) a ≤ S2048x128.size a) :
    Own w hw h q k v X1
      (View.ld (Val := Elt Ideal) (e' := .f32) X0 (Rect.unit (s := S1x1x2048x64) ![0, 0, w, 0] ![1, 1, 512, 64] inbQ))
      (vk.readCov (Val := Elt Ideal)
        [(⟨Rect.unit (s := S2048x64) ![0, 0] ![2048, 64] inbP, k0_pay3 (F := Ideal) X1⟩ : View.Piece (Elt Ideal) S2048x64 .bf16)]
        (Rect.unit (s := S2048x64) ![w, 0] ![512, 64] inbB).toLoadRect)
      (vv.readCov (Val := Elt Ideal)
        [(⟨Rect.unit (s := S2048x128) ![0, 64] ![2048, 64] inb1, k0_pay5 (F := Ideal)⟩ : View.Piece (Elt Ideal) S2048x128 .bf16),
         (⟨Rect.unit (s := S2048x128) ![0, 0] ![2048, 64] inb0, k0_pay4 (F := Ideal) X2⟩ : View.Piece (Elt Ideal) S2048x128 .bf16)]
        (Rect.unit (s := S2048x128) ![w, 0] ![512, 128] inbV).toLoadRect) where
  K_eq := e1
  Q_eq i d := (rows_at X0 w hw inbQ i d).trans (e0 _ d)
  kd_eq x d := (keys_at vk X1 w 512 hw inbP inbB x d).trans (e1 _ d)
  vd_eq x d := (values_at vv X2 w 512 hw inb1 inb0 inbV x _).trans ((dif_pos d.isLt).trans (e2 _ _))
  vd_one x := (values_at vv X2 w 512 hw inb1 inb0 inbV x 64).trans (dif_neg (by decide))

/-- From blocks that hold head `h`, the band that starts at row `w` loads of the keys before it what `Payload.Before` says. -/
theorem before (e1 : ∀ r d, X1 (ix4 0 0 r d) = (k (ix4 0 h r d) : EReal)) (e2 : ∀ r d, X2 (ix4 0 0 r d) = v (ix4 0 h r d))
    (vk : View sig κ' sp S2048x64 .bf16) (vv : View sig κ' sp S2048x128 .bf16) (w : ℕ) (hw : w + 512 ≤ 2048)
    (inbP : ∀ a, (![0, 0] : Fin 2 → ℕ) a + (![2048, 64] : Fin 2 → ℕ) a ≤ S2048x64.size a)
    (inbB : ∀ a, (![0, 0] : Fin 2 → ℕ) a + (![w, 64] : Fin 2 → ℕ) a ≤ S2048x64.size a)
    (inb1 : ∀ a, (![0, 64] : Fin 2 → ℕ) a + (![2048, 64] : Fin 2 → ℕ) a ≤ S2048x128.size a)
    (inb0 : ∀ a, (![0, 0] : Fin 2 → ℕ) a + (![2048, 64] : Fin 2 → ℕ) a ≤ S2048x128.size a)
    (inbV : ∀ a, (![0, 0] : Fin 2 → ℕ) a + (![w, 128] : Fin 2 → ℕ) a ≤ S2048x128.size a) :
    Before w hw h k v
      (vk.readCov (Val := Elt Ideal)
        [(⟨Rect.unit (s := S2048x64) ![0, 0] ![2048, 64] inbP, k0_pay3 (F := Ideal) X1⟩ : View.Piece (Elt Ideal) S2048x64 .bf16)]
        (Rect.unit (s := S2048x64) ![0, 0] ![w, 64] inbB).toLoadRect)
      (vv.readCov (Val := Elt Ideal)
        [(⟨Rect.unit (s := S2048x128) ![0, 64] ![2048, 64] inb1, k0_pay5 (F := Ideal)⟩ : View.Piece (Elt Ideal) S2048x128 .bf16),
         (⟨Rect.unit (s := S2048x128) ![0, 0] ![2048, 64] inb0, k0_pay4 (F := Ideal) X2⟩ : View.Piece (Elt Ideal) S2048x128 .bf16)]
        (Rect.unit (s := S2048x128) ![0, 0] ![w, 128] inbV).toLoadRect) where
  kl_eq x d := by
    refine (keys_at vk X1 0 w (by omega) inbP inbB x d).trans ((e1 _ d).trans ?_)
    simp only [Nat.zero_add]; rfl
  vl_eq x d := by
    refine (values_at vv X2 0 w (by omega) inb1 inb0 inbV x _).trans ((dif_pos d.isLt).trans ((e2 _ _).trans ?_))
    simp only [Nat.zero_add]; rfl
  vl_one x := (values_at vv X2 0 w (by omega) inb1 inb0 inbV x 64).trans (dif_neg (by decide))

end Bands

end Cert.KernelIdeal.Loads

end
-- ==== Proof.KernelValue.lean ====
/- What the kernel's result array holds. -/
module

public import proofs.«01_k».proof.Proof.Loads
public import proofs.«01_k».proof.Proof.Gen.KernelIdeal.Value
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.KernelIdeal.HeadValue

open Cert.KernelIdeal Cert.KernelIdeal.Gen Cert.Spec Cert.KernelIdeal.Payload Cert.KernelIdeal.Loads

variable (m : (ℓ : Loc nD τ sig) → Buf (Elt Ideal) ℓ)

/-- At grid point `t` every window is at head `t`. -/
theorem idx_val : ∀ t : Fin cfg0.N, win0_0.index t = ![0, t.val, 0, 0] ∧ win0_1.index t = ![0, t.val, 0, 0]
    ∧ win0_2.index t = ![0, t.val, 0, 0] ∧ win0_3.index t = ![0, t.val, 0, 0] :=
  (by decide +kernel : ∀ t : Fin grid0.N, _)

/-- The block of queries of head `t`, at an index. -/
theorem block0 (c : Dev nD) (t : Fin cfg0.N) (h : Fin 16) (e : h.val = t.val) (r : Fin 2048) (d : Fin 64) :
    (show EReal from iblk m c 0 t (ix4 0 0 r d)) = m ((c : Thread nD τ).loc main_arg0) (ix4 0 h r d) := by
  blk_point [iblk, V, idx_val t]

/-- The block of keys of head `t`, at an index. -/
theorem block1 (c : Dev nD) (t : Fin cfg0.N) (h : Fin 16) (e : h.val = t.val) (r : Fin 2048) (d : Fin 64) :
    (show EReal from iblk m c 1 t (ix4 0 0 r d)) = m ((c : Thread nD τ).loc main_arg1) (ix4 0 h r d) := by
  blk_point [iblk, V, idx_val t]

/-- The block of values of head `t`, at an index. -/
theorem block2 (c : Dev nD) (t : Fin cfg0.N) (h : Fin 16) (e : h.val = t.val) (r : Fin 2048) (d : Fin 64) :
    (show EReal from iblk m c 2 t (ix4 0 0 r d)) = m ((c : Thread nD τ).loc main_arg2) (ix4 0 h r d) := by
  blk_point [iblk, V, idx_val t]

/-- Where an element of the block of head `t` lies in the result. -/
theorem at_emb (t : Fin cfg0.N) (y : S1x1x2048x64.Idx) (g : Fin 16) (r : Fin 2048) (d : Fin 64) (eg : g.val = t.val)
    (h2 : (y 2).val = r.val) (h3 : (y 3).val = d.val) (q k : SArr.Idx → ℝ) (v : SArr.Idx → EReal) :
    attend q k v g r d = attend q k v (((View.whole main_v0).slice (win0_3.rect t)).emb y 1)
      (((View.whole main_v0).slice (win0_3.rect t)).emb y 2) (((View.whole main_v0).slice (win0_3.rect t)).emb y 3) := by
  have h1 : (y 1).val = 0 := congrArg Fin.val (Subsingleton.elim (α := Fin 1) (y 1) 0)
  have f1 : g = ((View.whole main_v0).slice (win0_3.rect t)).emb y 1 := Fin.ext (by blk_simp [idx_val t]; omega)
  have f2 : r = ((View.whole main_v0).slice (win0_3.rect t)).emb y 2 := Fin.ext (by blk_simp [idx_val t]; omega)
  have f3 : d = ((View.whole main_v0).slice (win0_3.rect t)).emb y 3 := Fin.ext (by blk_simp [idx_val t]; omega)
  exact congr (congr (congrArg _ f1) f2) f3

/-- After the run the result array holds causal attention, whenever the queries and the keys it was given are real. -/
theorem final (c : Dev nD) (q k : SArr.Idx → ℝ) (e0 : m ((c : Thread nD τ).loc main_arg0) = fun i => (q i : EReal))
    (e1 : m ((c : Thread nD τ).loc main_arg1) = fun i => (k i : EReal)) :
    (dats m 0 c).arrAt 3 (cfgs 0).N
      = fun i : S1x16x2048x64.Idx => attend q k (m ((c : Thread nD τ).loc main_arg2)) (i 1) (i 2) (i 3) := by
  refine (dats m 0 c).arrAt_eq_of_covers 3 _ (by decide +kernel) fun t _ y => ?_
  obtain ⟨g, eg⟩ : ∃ g : Fin 16, g.val = t.val := ⟨⟨t.val, t.isLt⟩, rfl⟩
  have b0 : ∀ r d, (show FVec Ideal S1x1x2048x64 .f32 from iblk m c 0 t) (ix4 0 0 r d) = (q (ix4 0 g r d) : EReal) :=
    fun r d => (block0 m c t g eg r d).trans (congrFun e0 _)
  have b1 : ∀ r d, (show FVec Ideal S1x1x2048x64 .f32 from iblk m c 1 t) (ix4 0 0 r d) = (k (ix4 0 g r d) : EReal) :=
    fun r d => (block1 m c t g eg r d).trans (congrFun e1 _)
  have b2 : ∀ r d, (show FVec Ideal S1x1x2048x64 .f32 from iblk m c 2 t) (ix4 0 0 r d)
      = m ((c : Thread nD τ).loc main_arg2) (ix4 0 g r d) := block2 m c t g eg
  blk_simp
  rw [after0_3]
  unfold outsAt0
  frame_out
  canon_tiles x h
  all_goals
    idx_vars x
    obtain rfl : x0 = 0 := Subsingleton.elim _ _
    obtain rfl : x1 = 0 := Subsingleton.elim _ _
  case piece0 =>
    exact (band3 (own b0 b1 b2 _ _ 1536 (by omega) _ _ _ _ _ _) (before b1 b2 _ _ 1536 (by omega) _ _ _ _ _) x2 x3).trans
      (at_emb t y g _ x3 eg (by simp only [Band.row]; omega) h3 q k _)
  case piece1 =>
    exact (band2 (own b0 b1 b2 _ _ 1024 (by omega) _ _ _ _ _ _) (before b1 b2 _ _ 1024 (by omega) _ _ _ _ _) x2 x3).trans
      (at_emb t y g _ x3 eg (by simp only [Band.row]; omega) h3 q k _)
  case piece2 =>
    exact (band1 (own b0 b1 b2 _ _ 512 (by omega) _ _ _ _ _ _) (before b1 b2 _ _ 512 (by omega) _ _ _ _ _) x2 x3).trans
      (at_emb t y g _ x3 eg (by simp only [Band.row]; omega) h3 q k _)
  case piece3 =>
    exact (band0 (own b0 b1 b2 _ _ 0 (by omega) _ _ _ _ _ _) x2 x3).trans
      (at_emb t y g _ x3 eg (by simp only [Band.row]; omega) h3 q k _)

end Cert.KernelIdeal.HeadValue

end
-- ==== Proof.RefValue.lean ====
/- What the reference computes at an index: the softmax attention of each query row over the first 32 keys, the causal
   softmax attention of the later query rows over the later keys, and their merge — which is causal attention over all keys. -/
module

public import proofs.«01_k».proof.Proof.Spec
public import proofs.«01_k».proof.Proof.Gen.ReferenceIdeal.Read
public import Idealize.ShloMosaic.Lib.WordCmp

@[expose] public section

set_option maxRecDepth 16384

noncomputable section

namespace Cert.ReferenceIdeal.RefValue

open Cert.ReferenceIdeal Cert.ReferenceIdeal.Gen Cert.ReferenceIdeal.Read Cert.Spec Cert.Softmax Idealize.ShloMosaic

variable (q k : SArr.Idx → ℝ) (v : FVec Ideal S1x16x2048x64 .f32)

/-- A real array as an array of extended reals. -/
abbrev up (x : SArr.Idx → ℝ) : FVec Ideal S1x16x2048x64 .f32 := fun i => (x i : EReal)

/-- The reference's mask literal is `-∞`. -/
theorem lit_bot : Ideal.ofBits .f32 0xFF800000#32 = ⊥ := by simp [Ideal.ofBits, Ideal.ieee]

/-- The reference's scale literal is `1 / 8`. -/
theorem lit_eighth : Ideal.ofBits .f32 0x3E000000#32 = ((1 / 8 : ℝ) : EReal) := by
  simp [Ideal.ofBits, Ideal.ieee, -EReal.coe_mul]; norm_num

/-- Key row `j` of the first 32. -/
abbrev headIx (j : Fin 32) : Fin 2048 := ⟨j.val, by omega⟩

/-- Row `32 + j`. -/
abbrev tailIx (j : Fin 2016) : Fin 2048 := ⟨32 + j.val, by omega⟩

/-! ## The attention over the first 32 keys -/

/-- The masked scores against the first 32 keys are scores of the causal weights. -/
theorem head_score (h : Fin 16) (r : Fin 2048) (j : Fin 32) :
    IsScore (val_main_v13 (F := Ideal) (up q) (up k) (ix4 0 h r j)) (weight q k h r (headIx j)) := by
  have e : val_main_v13 (F := Ideal) (up q) (up k) (ix4 0 h r j)
      = if j.val ≤ r.val then (∑ d : Fin 64, (q (ix4 0 h r d) : EReal) * (k (ix4 0 h (headIx j) d) : EReal)) * ((1 / 8 : ℝ) : EReal)
        else ⊥ := by
    pointwise [val_main_v13, val_main_call0_v1, val_main_v12, val_main_v11, val_main_v10, val_main_v9, val_main_v8, val_main_v7,
      val_main_v6, val_main_v5, val_main_call0_v2, val_main_call0_v0, val_main_cst_0, val_main_v4, val_main_v3, val_main_cst,
      val_main_v2, val_main_v0]
    word_cmp
    rw [lit_eighth, ← lit_bot]; rfl
  rw [e]
  exact isScore q k h r (headIx j) _ Iff.rfl

/-- Every query row sees the first key. -/
theorem head_zero (h : Fin 16) (r : Fin 2048) : val_main_v13 (F := Ideal) (up q) (up k) (ix4 0 h r 0) ≠ ⊥ := fun e => by
  rcases head_score q k h r 0 with ⟨-, hw⟩ | ⟨x, hx, -⟩
  · exact (weight_pos q k h r (headIx 0) (Nat.zero_le _)).ne' hw
  · rw [e] at hx; exact EReal.bot_ne_coe x hx

/-- The total weight of the first 32 keys. -/
def headTotal (h : Fin 16) (r : Fin 2048) : ℝ := ∑ j : Fin 32, weight q k h r (headIx j)

/-- The first part's total weight is positive. -/
theorem headTotal_pos (h : Fin 16) (r : Fin 2048) : 0 < headTotal q k h r := sum_pos (head_score q k h r) 0 (head_zero q k h r)

/-- The log-sum-exp of the first 32 keys is the logarithm of their total weight. -/
theorem head_lse (h : Fin 16) (r : Fin 2048) :
    val_main_v22 (F := Ideal) (up q) (up k) (ix4 0 h r 0) = ((Real.log (headTotal q k h r) : ℝ) : EReal) := by
  pointwise [val_main_v22, val_main_v21, val_main_v20, val_main_v19, val_main_v18, val_main_v17, val_main_v16, val_main_v15,
    val_main_cst_2, val_main_v14, val_main_cst_1]
  rw [lit_bot]
  exact lse (head_score q k h r) 0 (head_zero q k h r)

/-- The attention over the first 32 keys is the mean of their values under their weights. -/
theorem head_attn (h : Fin 16) (r : Fin 2048) (d : Fin 64) :
    val_main_v26 (F := Ideal) (up q) (up k) v (ix4 0 h r d)
      = ∑ j : Fin 32, ((weight q k h r (headIx j) / headTotal q k h r : ℝ) : EReal) * v (ix4 0 h (headIx j) d) := by
  pointwise [val_main_v26, val_main_v25, val_main_v24, val_main_v23, val_main_v1]
  refine Finset.sum_congr rfl fun j _ => ?_
  rw [head_lse, (head_score q k h r j).share (headTotal_pos q k h r)]

/-! ## The attention of the later rows over the later keys -/

/-- The masked scores of the later rows against the later keys are scores of the causal weights. -/
theorem tail_score (h : Fin 16) (r j : Fin 2016) :
    IsScore (val_main_v41 (F := Ideal) (up q) (up k) (ix4 0 h r j)) (weight q k h (tailIx r) (tailIx j)) := by
  have e : val_main_v41 (F := Ideal) (up q) (up k) (ix4 0 h r j)
      = if j.val ≤ r.val then (∑ d : Fin 64, (q (ix4 0 h (tailIx r) d) : EReal) * (k (ix4 0 h (tailIx j) d) : EReal)) * ((1 / 8 : ℝ) : EReal)
        else ⊥ := by
    pointwise [val_main_v41, val_main_call1_v1, val_main_v40, val_main_v39, val_main_v38, val_main_v37, val_main_v36, val_main_v35,
      val_main_v34, val_main_v33, val_main_call1_v2, val_main_call1_v0, val_main_cst_4, val_main_v32, val_main_v31, val_main_cst_3,
      val_main_v30, val_main_v28, val_main_v27]
    word_cmp
    rw [lit_eighth, ← lit_bot]; rfl
  rw [e]
  exact isScore q k h (tailIx r) (tailIx j) _ (by show j.val ≤ r.val ↔ 32 + j.val ≤ 32 + r.val; omega)

/-- Every later row sees itself. -/
theorem tail_self (h : Fin 16) (r : Fin 2016) : val_main_v41 (F := Ideal) (up q) (up k) (ix4 0 h r r) ≠ ⊥ := fun e => by
  rcases tail_score q k h r r with ⟨-, hw⟩ | ⟨x, hx, -⟩
  · exact (weight_pos q k h (tailIx r) (tailIx r) le_rfl).ne' hw
  · rw [e] at hx; exact EReal.bot_ne_coe x hx

/-- The total weight of the later keys. -/
def tailTotal (h : Fin 16) (r : Fin 2048) : ℝ := ∑ j : Fin 2016, weight q k h r (tailIx j)

/-- The tail's total weight is positive for a row that has a tail. -/
theorem tailTotal_pos (h : Fin 16) (r : Fin 2016) : 0 < tailTotal q k h (tailIx r) :=
  sum_pos (tail_score q k h r) r (tail_self q k h r)

/-- The log-sum-exp of the later keys is the logarithm of their total weight. -/
theorem tail_lse (h : Fin 16) (r : Fin 2016) :
    val_main_v50 (F := Ideal) (up q) (up k) (ix4 0 h r 0) = ((Real.log (tailTotal q k h (tailIx r)) : ℝ) : EReal) := by
  pointwise [val_main_v50, val_main_v49, val_main_v48, val_main_v47, val_main_v46, val_main_v45, val_main_v44, val_main_v43,
    val_main_cst_6, val_main_v42, val_main_cst_5]
  rw [lit_bot]
  exact lse (tail_score q k h r) r (tail_self q k h r)

/-- The attention over the later keys is the mean of their values under their weights. -/
theorem tail_attn (h : Fin 16) (r : Fin 2016) (d : Fin 64) :
    val_main_v54 (F := Ideal) (up q) (up k) v (ix4 0 h r d)
      = ∑ j : Fin 2016, ((weight q k h (tailIx r) (tailIx j) / tailTotal q k h (tailIx r) : ℝ) : EReal) * v (ix4 0 h (tailIx j) d) := by
  pointwise [val_main_v54, val_main_v53, val_main_v52, val_main_v51, val_main_v29]
  refine Finset.sum_congr rfl fun j _ => ?_
  rw [tail_lse, (tail_score q k h r j).share (tailTotal_pos q k h r)]

/-! ## The merge -/

/-- A sum over all keys is a sum over the first 32 and a sum over the rest. -/
theorem sum_split {M : Type} [AddCommMonoid M] (f : Fin 2048 → M) : ∑ j, f j = ∑ j : Fin 32, f (headIx j) + ∑ j : Fin 2016, f (tailIx j) :=
  Fin.sum_univ_add (a := 32) (b := 2016) f

/-- The two parts' totals add up to the row's total. -/
theorem total_eq (h : Fin 16) (r : Fin 2048) : total q k h r = headTotal q k h r + tailTotal q k h r := sum_split _

/-- The padded log-sum-exp of the later keys: `-∞` at the first 32 rows, which see no later key; always a score whose weight is the
    later keys' total. -/
theorem pad_lse (h : Fin 16) (r : Fin 2048) : IsScore (val_main_v60 (F := Ideal) (up q) (up k) (ix4 0 h r 0)) (tailTotal q k h r) := by
  pointwise [val_main_v60, val_main_v59, val_main_cst_8]
  by_cases hr : r.val < 32
  · rw [dif_pos hr, lit_bot]
    exact .inl ⟨rfl, Finset.sum_eq_zero fun j _ => weight_of_lt q k h r _ (by show r.val < 32 + j.val; omega)⟩
  · rw [dif_neg hr]
    obtain ⟨r', rfl⟩ : ∃ r' : Fin 2016, r = tailIx r' := ⟨⟨r.val - 32, by omega⟩, Fin.ext (by show r.val = 32 + (r.val - 32); omega)⟩
    have e : (⟨(tailIx r').val - 32, by omega⟩ : Fin 2016) = r' := Fin.ext (by show 32 + r'.val - 32 = r'.val; omega)
    refine .inr ⟨Real.log (tailTotal q k h (tailIx r')), ?_, (Real.exp_log (tailTotal_pos q k h r')).symm⟩
    rw [← tail_lse]
    exact congrArg (fun x => val_main_v50 (F := Ideal) (up q) (up k) (ix4 0 h x 0)) e

/-- The padded attention over the later keys, rescaled by their share of the joint total. -/
theorem pad_attn (h : Fin 16) (r : Fin 2048) (d : Fin 64) :
    ((tailTotal q k h r / total q k h r : ℝ) : EReal) * val_main_v57 (F := Ideal) (up q) (up k) v (ix4 0 h r d)
      = ∑ j : Fin 2016, ((weight q k h r (tailIx j) / total q k h r : ℝ) : EReal) * v (ix4 0 h (tailIx j) d) := by
  pointwise [val_main_v57, val_main_v56, val_main_cst_7]
  by_cases hr : r.val < 32
  · rw [dif_pos hr, mul_zero]
    exact (Finset.sum_eq_zero fun j _ => by
      rw [weight_of_lt q k h r (tailIx j) (by show r.val < 32 + j.val; omega), zero_div, EReal.coe_zero, zero_mul]).symm
  · rw [dif_neg hr]
    obtain ⟨r', rfl⟩ : ∃ r' : Fin 2016, r = tailIx r' := ⟨⟨r.val - 32, by omega⟩, Fin.ext (by show r.val = 32 + (r.val - 32); omega)⟩
    have e : (⟨(tailIx r').val - 32, by omega⟩ : Fin 2016) = r' := Fin.ext (by show 32 + r'.val - 32 = r'.val; omega)
    have e' := congrArg (fun x => val_main_v54 (F := Ideal) (up q) (up k) v (ix4 0 h x d)) e
    rw [e', tail_attn]
    exact rescale (div_nonneg (tailTotal_pos q k h r').le (total_pos q k h _).le) (tailTotal_pos q k h r').ne' rfl

/-- THE REFERENCE at an index: causal attention over all keys. -/
theorem ref_apply (h : Fin 16) (r : Fin 2048) (d : Fin 64) :
    val_main_v73 (F := Ideal) (up q) (up k) v (ix4 0 h r d) = attend q k v h r d := by
  have hc : val_main_v66 (F := Ideal) (up q) (up k) (ix4 0 h r 0) = ((headTotal q k h r / total q k h r : ℝ) : EReal) := by
    pointwise [val_main_v66, val_main_v65, val_main_cst_10, val_main_v64, val_main_v63, val_main_cst_9, val_main_v62, val_main_v61]
    rw [head_lse, total_eq]
    exact merge_coeff (pad_lse q k h r) (headTotal_pos q k h r)
  have hd : (1 : EReal) - ((headTotal q k h r / total q k h r : ℝ) : EReal) = ((tailTotal q k h r / total q k h r : ℝ) : EReal) := by
    have ht := (total_pos q k h r).ne'
    rw [← EReal.coe_one, ← EReal.coe_sub]
    congr 1
    rw [eq_div_iff ht, sub_mul, div_mul_cancel₀ _ ht, total_eq]; ring
  pointwise [val_main_v73, val_main_v68, val_main_v67, val_main_v72, val_main_v71, val_main_v70, val_main_v69, val_main_cst_11]
  rw [hc, hd, pad_attn, head_attn,
    rescale (div_nonneg (headTotal_pos q k h r).le (total_pos q k h r).le) (headTotal_pos q k h r).ne' rfl, attend, sum_split]

end Cert.ReferenceIdeal.RefValue

end
-- ==== Proof.Finite.lean ====
/- What the precondition says: the queries and the keys are real numbers. -/
module

public import proofs.«01_k».proof.Defs
public import proofs.«01_k».proof.Proof.Spec
public import proofs.«01_k».proof.Proof.Gen.Pre_finite
public import Idealize.ShloMosaic.Lib.ReduceAll

@[expose] public section

noncomputable section

namespace Cert.Finite

open Idealize.ShloMosaic Cert.Spec

/-- A value whose absolute value is below infinity is real. -/
theorem real_of_olt (x : EReal) (e : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at e
  have hlt : max x (-x) < ⊤ := by
    by_contra hn
    simp [Ideal.cmp, hn] at e
  have h1 : x ≠ ⊤ := fun hx => by simp [hx] at hlt
  have h2 : x ≠ ⊥ := fun hx => by simp [hx] at hlt
  exact ⟨x.toReal, (EReal.coe_toReal h1 h2).symm⟩

/-- An array whose elements all compare below infinity in absolute value is the reading of an array of reals. -/
theorem real_of_all (x : SArr.Idx → EReal) (e : ∀ i, Ideal.cmp .olt (max (x i) (-(x i))) (Ideal.ofBits .f32 0x7F800000#32) = 1#1) :
    ∃ r : SArr.Idx → ℝ, x = fun i => (r i : EReal) := by
  choose r hr using fun i => real_of_olt (x i) (e i)
  exact ⟨r, funext hr⟩

/-- The precondition's two parts. -/
theorem reals (q k v : SArr.Idx → EReal) (e : Cert.Pre_finite.fn (F := Ideal) q k v = fun _ => 1#1) :
    (∃ r : SArr.Idx → ℝ, q = fun i => (r i : EReal)) ∧ ∃ r : SArr.Idx → ℝ, k = fun i => (r i : EReal) := by
  have : Subsingleton Cert.Pre_finite.S_.Idx := ⟨fun a b => funext fun i => i.elim0⟩
  have e0 := congrFun e default
  dsimp only [Cert.Pre_finite.fn] at e0
  obtain ⟨eq, ek⟩ := IntOp.andi_eq_one.1 e0
  exact ⟨real_of_all q fun i => Host.reduce_andi_all _ _ _ _ _ eq i, real_of_all k fun i => Host.reduce_andi_all _ _ _ _ _ ek i⟩

end Cert.Finite

end
-- ==== Proof.lean ====
/- The certificate: the frames, the two named constants, and the equality of the kernel's result with the reference's. Each side
   is read as `Spec.attend`: the kernel in `Proof/KernelValue.lean`, the reference in `Proof/RefValue.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelValue
public import proofs.«01_k».proof.Proof.RefValue
public import proofs.«01_k».proof.Proof.Finite
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Spec

/-- The reference's runs leave its arguments as they were, and it has no semaphore. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The two named constants are what the idealized kernel computes with. -/
theorem preserves : Cert.preserves_Kernel_KernelIdeal :=
  ⟨IdealRules.named_const.statement Cert.KernelIdeal.κ _ _ _ _ rfl, IdealRules.named_const.statement Cert.KernelIdeal.κ _ _ _ _ rfl⟩

/-- From real queries and keys the kernel's result is the reference's, element by element. -/
theorem algebraic : Cert.algebraic_KernelIdeal_ReferenceIdeal_pre_finite := by
  pair_intro
  · run_from Cert.KernelIdeal.Gen.run_main m g
  · run_from Cert.ReferenceIdeal.Value.run m' g'
    obtain ⟨a0, a1, a2⟩ := hagree c
    obtain ⟨⟨q, e0⟩, k, e1⟩ := Cert.Finite.reals _ _ _ (hpre c)
    refine Eq.trans ?_ (Cert.KernelIdeal.HeadValue.final m c q k e0 e1).symm
    rw [Cert.ReferenceIdeal.Read.val_main_v73_eq, a0, a1, a2, e0, e1]
    funext i
    obtain ⟨b, h, r, d, rfl⟩ : ∃ (b : Fin 1) (h : Fin 16) (r : Fin 2048) (d : Fin 64), i = ix4 b h r d := ⟨_, _, _, _, eq_ix4 i⟩
    obtain rfl : b = 0 := Subsingleton.elim _ _
    exact Cert.ReferenceIdeal.RefValue.ref_apply q k _ h r d

/-- Everything claimed. -/
theorem claim : Cert.Claim := ⟨Cert.Kernel.Gen.facts, Cert.KernelIdeal.Gen.facts, Cert.ReferenceIdeal.Gen.facts, Cert.Pre_finite.Gen.facts,
  fun m g _ => Cert.Kernel.Gen.frame m g, fun m g _ => Cert.KernelIdeal.Gen.frame m g, fun m g _ => Cert.KernelIdeal.Gen.frame m g,
  frame_ref, fun m g _ => frame_ref m g trivial, preserves, algebraic⟩

end Cert.Proof

end
